-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x768 : Shape := ⟨3, ![2, 2048, 768]⟩
abbrev S768x2304 : Shape := ⟨2, ![768, 2304]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_

variable [Facts]

def fn {F : FTy → Type} [FloatOps F] (main_arg0 : FVec F S2x2048x768 .f32) (main_arg1 : FVec F S768x2304 .f32) (main_arg2 : FVec F S768x768 .f32) (main_arg3 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  main_v8
-- ==== Kernel.lean ====
abbrev S2x2048x768 : Shape := ⟨3, ![2, 2048, 768]⟩
abbrev S768x2304 : Shape := ⟨2, ![768, 2304]⟩
abbrev S768x768 : Shape := ⟨2, ![768, 768]⟩
abbrev S768 : Shape := ⟨1, ![768]⟩
abbrev S2x2048x2304 : Shape := ⟨3, ![2, 2048, 2304]⟩
abbrev S1x512x768 : Shape := ⟨3, ![1, 512, 768]⟩
abbrev S512x768 : Shape := ⟨2, ![512, 768]⟩
abbrev S1x768 : Shape := ⟨2, ![1, 768]⟩
abbrev S1x2048x768 : Shape := ⟨3, ![1, 2048, 768]⟩
abbrev S2048x768 : Shape := ⟨2, ![2048, 768]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 16
  | .smem => 0
  | _ => 0

abbrev bufTy : (tb : Table) → Fin (tcTables nBuf tb) → BufTy
  | .hbm, ⟨0, _⟩ => ⟨S2x2048x768, .f32⟩
  | .hbm, ⟨1, _⟩ => ⟨S768x2304, .f32⟩
  | .hbm, ⟨2, _⟩ => ⟨S768x768, .f32⟩
  | .hbm, ⟨3, _⟩ => ⟨S768, .f32⟩
  | .hbm, ⟨4, _⟩ => ⟨S2x2048x2304, .f32⟩
  | .hbm, ⟨5, _⟩ => ⟨S1x768, .f32⟩
  | .hbm, ⟨6, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x768, .f32⟩
  | .local _ .vmem, ⟨3, _⟩ => ⟨S768x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x2048x768, .f32⟩
  | .local _ .vmem, ⟨9, _⟩ => ⟨S1x2048x768, .f32⟩
  | .local _ .vmem, ⟨10, _⟩ => ⟨S1x2048x768, .f32⟩
  | .local _ .vmem, ⟨11, _⟩ => ⟨S1x2048x768, .f32⟩
  | .local _ .vmem, ⟨12, _⟩ => ⟨S768x768, .f32⟩
  | .local _ .vmem, ⟨13, _⟩ => ⟨S1x768, .f32⟩
  | .local _ .vmem, ⟨14, _⟩ => ⟨S1x512x768, .f32⟩
  | .local _ .vmem, ⟨15, _⟩ => ⟨S1x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨3, ![2, 4, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S2x2048x768 : Shape := ⟨3, ![2, 2048, 768]⟩
abbrev S768x2304 : Shape := ⟨2, ![768, 2304]⟩
abbrev S768x768 : Shape := ⟨2, ![768, 768]⟩
abbrev S768 : Shape := ⟨1, ![768]⟩
abbrev S2x2048x2304 : Shape := ⟨3, ![2, 2048, 2304]⟩
abbrev S2x2048x3x12x64 : Shape := ⟨5, ![2, 2048, 3, 12, 64]⟩
abbrev S2x2048x1x12x64 : Shape := ⟨5, ![2, 2048, 1, 12, 64]⟩
abbrev S2x2048x12x64 : Shape := ⟨4, ![2, 2048, 12, 64]⟩
abbrev S_ : Shape := ⟨0, ![]⟩
abbrev S2x12x2048x2048 : Shape := ⟨4, ![2, 12, 2048, 2048]⟩
abbrev S2x12x2048 : Shape := ⟨3, ![2, 12, 2048]⟩
abbrev S2x12x2048x1 : Shape := ⟨4, ![2, 12, 2048, 1]⟩
abbrev S2x12x64x2048 : Shape := ⟨4, ![2, 12, 64, 2048]⟩
abbrev S1x1x768 : Shape := ⟨3, ![1, 1, 768]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x2304, .f32⟩
  | .hbm, ⟨2, _⟩ => ⟨S768x768, .f32⟩
  | .hbm, ⟨3, _⟩ => ⟨S768, .f32⟩
  | .hbm, ⟨4, _⟩ => ⟨S2x2048x2304, .f32⟩
  | .hbm, ⟨5, _⟩ => ⟨S2x2048x3x12x64, .f32⟩
  | .hbm, ⟨6, _⟩ => ⟨S2x2048x1x12x64, .f32⟩
  | .hbm, ⟨7, _⟩ => ⟨S2x2048x12x64, .f32⟩
  | .hbm, ⟨8, _⟩ => ⟨S2x2048x1x12x64, .f32⟩
  | .hbm, ⟨9, _⟩ => ⟨S2x2048x12x64, .f32⟩
  | .hbm, ⟨10, _⟩ => ⟨S2x2048x1x12x64, .f32⟩
  | .hbm, ⟨11, _⟩ => ⟨S2x2048x12x64, .f32⟩
  | .hbm, ⟨12, _⟩ => ⟨S_, .f32⟩
  | .hbm, ⟨13, _⟩ => ⟨S2x2048x12x64, .f32⟩
  | .hbm, ⟨14, _⟩ => ⟨S2x2048x12x64, .f32⟩
  | .hbm, ⟨15, _⟩ => ⟨S2x12x2048x2048, .f32⟩
  | .hbm, ⟨16, _⟩ => ⟨S_, .f32⟩
  | .hbm, ⟨17, _⟩ => ⟨S2x12x2048, .f32⟩
  | .hbm, ⟨18, _⟩ => ⟨S_, .f32⟩
  | .hbm, ⟨19, _⟩ => ⟨S2x12x2048, .f32⟩
  | .hbm, ⟨20, _⟩ => ⟨S2x12x2048, .f32⟩
  | .hbm, ⟨21, _⟩ => ⟨S2x12x2048x1, .f32⟩
  | .hbm, ⟨22, _⟩ => ⟨S2x12x2048x2048, .f32⟩
  | .hbm, ⟨23, _⟩ => ⟨S2x12x2048x2048, .f32⟩
  | .hbm, ⟨24, _⟩ => ⟨S2x12x2048x2048, .f32⟩
  | .hbm, ⟨25, _⟩ => ⟨S_, .f32⟩
  | .hbm, ⟨26, _⟩ => ⟨S2x12x2048, .f32⟩
  | .hbm, ⟨27, _⟩ => ⟨S2x12x2048x1, .f32⟩
  | .hbm, ⟨28, _⟩ => ⟨S2x12x2048x2048, .f32⟩
  | .hbm, ⟨29, _⟩ => ⟨S2x12x2048x2048, .f32⟩
  | .hbm, ⟨30, _⟩ => ⟨S2x12x64x2048, .f32⟩
  | .hbm, ⟨31, _⟩ => ⟨S2x2048x12x64, .f32⟩
  | .hbm, ⟨32, _⟩ => ⟨S2x2048x768, .f32⟩
  | .hbm, ⟨33, _⟩ => ⟨S2x2048x768, .f32⟩
  | .hbm, ⟨34, _⟩ => ⟨S1x1x768, .f32⟩
  | .hbm, ⟨35, _⟩ => ⟨S2x2048x768, .f32⟩
  | .hbm, ⟨36, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Pre.lean ====
/- The precondition read back: where it is all ones, every entry of the input and of the first weights is a real number. -/
module

public import proofs.«01_k».proof.Pre_finite
public import Idealize.ShloMosaic.Lib.Pointwise
public import Idealize.ShloMosaic.Lib.ReduceAll

@[expose] public section

set_option maxRecDepth 16384

noncomputable section

open Idealize.ShloMosaic

namespace Cert.Pre_finite

/-- The side conditions of the precondition's operations hold. -/
instance facts : Facts where
  bcast_S_S2x2048x768 := by decide
  reducesTo_S2x2048x768_S_d0_1_2 := by decide
  h_S_ := by decide
  bcast_S_S768x2304 := by decide
  reducesTo_S768x2304_S_d0_1 := by decide

/-- The pattern of infinity denotes the greatest extended real. -/
theorem ofBits_inf : Ideal.ofBits .f32 0x7F800000#32 = (⊤ : EReal) := by simp [Ideal.ofBits, Ideal.ieee]

/-- An extended real whose absolute value is below infinity is a real number. -/
theorem real_of_abs_lt (v : EReal) (h : max v (-v) < ⊤) : ∃ r : ℝ, v = (r : EReal) := by
  have h1 : v ≠ ⊤ := fun e => by subst e; simp at h
  have h2 : v ≠ ⊥ := fun e => by subst e; simp at h
  exact ⟨v.toReal, (EReal.coe_toReal h1 h2).symm⟩

/-- One comparison of the precondition, at an entry: the entry is real. -/
theorem real_of_cmp {s : Shape} (h : S_.BroadcastsInDim s (![] : Fin 0 → Fin s.rank)) (X : FVec Ideal s .f32) (i : s.Idx)
    (e : cmpf .olt (Host.absf X) (broadcastInDim s ![] h (constant S_ .f32 0x7F800000#32)) i = 1#1) : ∃ r : ℝ, X i = (r : EReal) := by
  refine real_of_abs_lt (X i) ?_
  have e' : BitVec.ofBool (decide (max (X i) (-(X i)) < Ideal.ofBits .f32 0x7F800000#32)) = 1#1 := e
  rw [ofBits_inf] at e'
  by_contra hn
  rw [decide_eq_false hn] at e'
  exact absurd e' (by decide)

/-- Where the precondition is all ones, the input's entries and the first weights' are real. -/
theorem real_of_fn (X : FVec Ideal S2x2048x768 .f32) (W : FVec Ideal S768x2304 .f32) (P : FVec Ideal S768x768 .f32)
    (β : FVec Ideal S768 .f32) (e : fn (F := Ideal) X W P β = fun _ => 1#1) :
    (∀ i, ∃ r : ℝ, X i = (r : EReal)) ∧ ∀ i, ∃ r : ℝ, W i = (r : EReal) := by
  have h := congrFun e (Shape.Idx.first Facts.h_S_)
  dsimp only [fn] at h
  obtain ⟨h1, h2⟩ := IntOp.andi_eq_one.1 h
  haveI : Subsingleton S_.Idx := ⟨fun a b => funext fun k => k.elim0⟩
  exact ⟨fun i => real_of_cmp _ X i (Host.reduce_andi_all _ _ _ _ _ h1 i), fun i => real_of_cmp _ W i (Host.reduce_andi_all _ _ _ _ _ h2 i)⟩

end Cert.Pre_finite

end
-- ==== Proof.Softmax.lean ====
/- The equation the certificate rests on, for one query row and one head, with no program in sight: a softmax
   whose exponentials are taken of the scores as they are and whose division comes after the weighted sum, against
   one whose scores are first lowered by their maximum and whose weights are normalised before the weighted sum.
   Over finite scores and values the two are the same number. -/
module

public import Idealize.ShloMosaic.Lib.Pointwise

@[expose] public section

noncomputable section

open Idealize.ShloMosaic

namespace Cert.Attn

/-- One head's output entry as the kernel takes it: the sum of the values weighted by the exponentials of the
    scores, divided by the sum of those exponentials. -/
def unshifted {n : ℕ} (s v : Fin n → EReal) : EReal :=
  Ideal.div (∑ m, Ideal.exp (s m) * v m) (∑ m, Ideal.exp (s m))

/-- The greatest of the scores, as the reference takes it. -/
def top {n : ℕ} (s : Fin n → EReal) : EReal := max ⊥ (Finset.univ.fold max ⊥ s)

/-- The same entry as the reference takes it: every score lowered by the greatest, each exponential divided by the
    sum of all, and the values weighted by the quotients. -/
def shifted {n : ℕ} (s v : Fin n → EReal) : EReal :=
  ∑ m, v m * Ideal.div (Ideal.exp (s m - top s)) (0 + ∑ l, Ideal.exp (s l - top s))

/-- A finite sum of real numbers is the same real number when taken among the extended reals. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The greatest of finitely many real scores (at least one) is real. -/
theorem top_real {n : ℕ} (hn : 0 < n) (s : Fin n → ℝ) : ∃ μ : ℝ, top (fun m => (s m : EReal)) = (μ : EReal) := by
  have h1 : top (fun m => (s m : EReal)) ≠ ⊤ :=
    (max_lt bot_lt_top ((Finset.fold_max_lt _).2 ⟨bot_lt_top, fun m _ => EReal.coe_lt_top (s m)⟩)).ne
  have h0 : (⊥ : EReal) < Finset.univ.fold max ⊥ fun m : Fin n => (s m : EReal) :=
    (Finset.lt_fold_max _).2 (.inr ⟨⟨0, hn⟩, Finset.mem_univ _, EReal.bot_lt_coe _⟩)
  have h2 : top (fun m => (s m : EReal)) ≠ ⊥ := (lt_max_of_lt_right h0).ne'
  exact ⟨_, (EReal.coe_toReal h1 h2).symm⟩

/-- Lowering every score by one number `μ` and normalising first changes nothing, over the reals. -/
theorem real_shift {n : ℕ} (s v : Fin n → ℝ) (μ : ℝ) :
    (∑ m, Real.exp (s m) * v m) * (1 / ∑ m, Real.exp (s m))
      = ∑ m, v m * (Real.exp (s m - μ) * (1 / ∑ l, Real.exp (s l - μ))) := by
  have he : ∀ m, Real.exp (s m - μ) = Real.exp (s m) * (Real.exp μ)⁻¹ := fun m => by
    rw [Real.exp_sub, div_eq_mul_inv]
  simp only [he, ← Finset.sum_mul]
  rw [Finset.sum_mul]
  refine Finset.sum_congr rfl fun m _ => ?_
  have hμ : Real.exp μ ≠ 0 := (Real.exp_pos μ).ne'
  rw [one_div, one_div, mul_inv, inv_inv]
  field_simp

/-- THE EQUATION: over real scores and values, at least one of them, the kernel's form is the reference's. -/
theorem unshifted_eq_shifted {n : ℕ} (hn : 0 < n) (s v : Fin n → ℝ) :
    unshifted (fun m => (s m : EReal)) (fun m => (v m : EReal)) = shifted (fun m => (s m : EReal)) (fun m => (v m : EReal)) := by
  obtain ⟨μ, hμ⟩ := top_real hn s
  haveI : Nonempty (Fin n) := ⟨⟨0, hn⟩⟩
  have pos : ∀ f : Fin n → ℝ, (∑ m, Real.exp (f m)) ≠ 0 := fun f =>
    (Finset.sum_pos (fun m _ => Real.exp_pos (f m)) Finset.univ_nonempty).ne'
  unfold unshifted shifted
  rw [hμ]
  simp only [← EReal.coe_sub, Ideal.exp_coe, ← EReal.coe_mul, coe_sum, zero_add]
  rw [Ideal.div_coe (pos _)]
  simp only [Ideal.div_coe (pos fun m => s m - μ), ← EReal.coe_mul, coe_sum]
  rw [real_shift s v μ]

/-- Why the entries are asked to be real: where every score and every value is infinite the kernel's form is 0 and the
    reference's is the least extended real. -/
theorem forms_differ :
    unshifted (fun _ : Fin 2048 => (⊤ : EReal)) (fun _ => ⊤) ≠ shifted (fun _ : Fin 2048 => (⊤ : EReal)) (fun _ => ⊤) := by
  have h : (2048 : EReal) * ⊤ = ⊤ := EReal.coe_mul_top_of_pos (x := 2048) (by norm_num)
  have hb : (2048 : EReal) * ⊥ = ⊥ := EReal.coe_mul_bot_of_pos (x := 2048) (by norm_num)
  have e1 : Ideal.exp ⊤ = ⊤ := rfl
  have e0 : Ideal.exp ⊥ = 0 := rfl
  have ht : top (fun _ : Fin 2048 => (⊤ : EReal)) = ⊤ := by
    refine top_unique (le_max_of_le_right ((Finset.le_fold_max _).2 (.inr ⟨0, Finset.mem_univ _, le_rfl⟩)))
  unfold unshifted shifted
  rw [ht]
  simp [e1, e0, Ideal.div, h, hb]
end Cert.Attn

end
-- ==== Proof.Formula.lean ====
/- The block's result as one formula in plain coordinates, shared by the kernel's side and the reference's: the
   products with the query, key and value weights, the scores of a head, a head's output entry in whichever form of
   the softmax, the projection and the bias. -/
module

public import proofs.«01_k».proof.Proof.Softmax

@[expose] public section

set_option maxRecDepth 16384

noncomputable section

open Idealize.ShloMosaic

namespace Cert.Attn

/-- The scale of the scores, one eighth, as the programs print it. -/
abbrev scale : EReal := Ideal.ofBits .f32 0x3E000000#32

/-- It is the real number one eighth. -/
theorem scale_real : ∃ σ : ℝ, scale = (σ : EReal) := by
  refine ⟨1 / 8, ?_⟩
  simp [Ideal.ofBits, Ideal.ieee, -EReal.coe_mul]
  norm_num

/-- The column of head `h` at its place `e`. -/
abbrev col (h : Fin 12) (e : Fin 64) : Fin 768 := ⟨64 * h.val + e.val, by have := h.2; have := e.2; omega⟩

/-- The head a column falls in, -/
abbrev headOf (c : Fin 768) : Fin 12 := ⟨c.val / 64, by have := c.2; omega⟩

/-- and its place there. -/
abbrev placeOf (c : Fin 768) : Fin 64 := ⟨c.val % 64, by omega⟩

theorem col_headOf (c : Fin 768) : col (headOf c) (placeOf c) = c := Fin.ext (Nat.div_add_mod c.val 64)

/-- Column `c` of the queries, of the keys and of the values among the 2304 columns of the three side by side. -/
abbrev qCol (c : Fin 768) : Fin 2304 := ⟨c.val, by have := c.2; omega⟩
abbrev kCol (c : Fin 768) : Fin 2304 := ⟨768 + c.val, by have := c.2; omega⟩
abbrev vCol (c : Fin 768) : Fin 2304 := ⟨1536 + c.val, by have := c.2; omega⟩

/-- Queries, keys and values side by side: row `n` of batch entry `b` times column `j` of the weights. -/
def qkv (X : Fin 2 → Fin 2048 → Fin 768 → EReal) (W : Fin 768 → Fin 2304 → EReal)
    (b : Fin 2) (n : Fin 2048) (j : Fin 2304) : EReal := ∑ c, X b n c * W c j

/-- The score of query row `n` against key row `m` in head `h`, the query scaled. -/
def score (A : Fin 2 → Fin 2048 → Fin 2304 → EReal) (b : Fin 2) (h : Fin 12) (n m : Fin 2048) : EReal :=
  ∑ e : Fin 64, A b n (qCol (col h e)) * scale * A b m (kCol (col h e))

/-- The result entry: column `c` of the heads' outputs, in the softmax form `soft`, times the projection weights, plus the
    bias. -/
def result (soft : (Fin 2048 → EReal) → (Fin 2048 → EReal) → EReal) (A : Fin 2 → Fin 2048 → Fin 2304 → EReal)
    (P : Fin 768 → Fin 768 → EReal) (β : Fin 768 → EReal) (b : Fin 2) (n : Fin 2048) (j : Fin 768) : EReal :=
  (∑ c, soft (score A b (headOf c) n) (fun m => A b m (vCol c)) * P c j) + β j

/-- Real inputs have real products. -/
theorem qkv_real (X : Fin 2 → Fin 2048 → Fin 768 → EReal) (W : Fin 768 → Fin 2304 → EReal)
    (hX : ∀ b n c, ∃ r : ℝ, X b n c = (r : EReal)) (hW : ∀ c j, ∃ r : ℝ, W c j = (r : EReal)) :
    ∃ a : Fin 2 → Fin 2048 → Fin 2304 → ℝ, qkv X W = fun b n j => (a b n j : EReal) := by
  choose x hx using hX
  choose w hw using hW
  refine ⟨fun b n j => ∑ c, x b n c * w c j, ?_⟩
  funext b n j
  simp only [qkv, hx, hw, ← EReal.coe_mul, coe_sum]

/-- THE EQUALITY: over real queries, keys and values the two forms of the softmax give one result, whatever the
    projection weights and the bias. -/
theorem result_eq (a : Fin 2 → Fin 2048 → Fin 2304 → ℝ) (P : Fin 768 → Fin 768 → EReal) (β : Fin 768 → EReal) :
    result unshifted (fun b n j => (a b n j : EReal)) P β = result shifted (fun b n j => (a b n j : EReal)) P β := by
  obtain ⟨σ, hσ⟩ := scale_real
  funext b n j
  unfold result
  refine congrArg (· + β j) (Finset.sum_congr rfl fun c _ => congrArg (· * P c j) ?_)
  have hs : score (fun b n j => (a b n j : EReal)) b (headOf c) n
      = fun m => ((∑ e : Fin 64, a b n (qCol (col (headOf c) e)) * σ * a b m (kCol (col (headOf c) e)) : ℝ) : EReal) := by
    funext m
    simp only [score, hσ, ← EReal.coe_mul, coe_sum]
  rw [hs]
  exact unshifted_eq_shifted (Nat.succ_pos 2047) _ _

end Cert.Attn

end
-- ==== Proof.Head.lean ====
/- What the second kernel's body stores, read at one index: the twelve heads are one function of the head's number,
   read once; their concatenation is read at a column by the head the column falls in; the projection and the bias
   follow. Nothing here is about the grid: the operands are variables. -/
module

public import proofs.«01_k».proof.Proof.Formula
public import proofs.«01_k».proof.Proof.Gen.KernelIdeal
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Body

open Cert.KernelIdeal Cert.KernelIdeal.Gen Cert.Attn

/-- One head of the second kernel's body, by the column `o` its 64 columns start at. -/
def headVec (o : ℕ) (hq : S512x768.Slices ![0, o] S512x64) (hk : S2048x768.Slices ![0, o] S2048x64)
    (q : FVec Ideal S512x768 .f32) (k v : FVec Ideal S2048x768 .f32) : FVec Ideal S512x64 .f32 :=
  divf
    (matmul dot_S512x2048_S2048x64_S512x64_1_0_0_1_n_n none
      (exp (matmul dot_S512x64_S2048x64_S512x2048_1_1_0_0_n_n none
        (extractStridedSlice S512x64 ![0, o] q hq) (extractStridedSlice S2048x64 ![0, o] k hk)
        (constant S512x2048 .f32 0x00000000#32)))
      (extractStridedSlice S2048x64 ![0, o] v hk) (constant S512x64 .f32 0x00000000#32))
    (broadcastTo S512x64
      (shapeCast S512x1
        (multiReduction .add [1] S512
          (exp (matmul dot_S512x64_S2048x64_S512x2048_1_1_0_0_n_n none
            (extractStridedSlice S512x64 ![0, o] q hq) (extractStridedSlice S2048x64 ![0, o] k hk)
            (constant S512x2048 .f32 0x00000000#32)))
          0x00000000#32 reduces_S512x2048_S512 (.inl rfl) rfl) shapeCasts_S512_S512x1) broadcasts_S512x1_S512x64)

/-- A head read at row `r` and place `d`: the unshifted softmax of the row's scores against every key row, over the
    value column. -/
theorem headVec_at (h : Fin 12) (hq : S512x768.Slices ![0, 64 * h.val] S512x64)
    (hk : S2048x768.Slices ![0, 64 * h.val] S2048x64)
    (q : FVec Ideal S512x768 .f32) (k v : FVec Ideal S2048x768 .f32) (r : Fin 512) (d : Fin 64) :
    headVec (64 * h.val) hq hk q k v (ix2 r d)
      = unshifted (fun m : Fin 2048 => ∑ e : Fin 64, q (ix2 r (col h e)) * k (ix2 m (col h e)))
          (fun m : Fin 2048 => v (ix2 m (col h d))) := by
  pointwise [headVec, unshifted]

/-- Slicing 64 columns from column `64 h` of the 768 stays inside, for every head `h`: of the 512 query rows, -/
theorem slices_q : ∀ h : Fin 12, S512x768.Slices ![0, 64 * h.val] S512x64 := by decide +kernel

/-- and of the 2048 key and value rows. -/
theorem slices_k : ∀ h : Fin 12, S2048x768.Slices ![0, 64 * h.val] S2048x64 := by decide +kernel

/-- Head `h` of the twelve. -/
def head (h : Fin 12) (q : FVec Ideal S512x768 .f32) (k v : FVec Ideal S2048x768 .f32) : FVec Ideal S512x64 .f32 :=
  headVec (64 * h.val) (slices_q h) (slices_k h) q k v

/-- Twelve pieces of 64 columns side by side, as a list. -/
abbrev pieces (f : Fin 12 → FVec Ideal S512x64 .f32) : List ((s : Shape) × Vec Ideal s .f32) :=
  [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩]

/-- Twelve pieces of 64 columns side by side: 768 columns. -/
def beside (f : Fin 12 → FVec Ideal S512x64 .f32) : FVec Ideal S512x768 .f32 :=
  concatenate S512x768 1 (pieces f)
    concatenates_S512x64_S512x64_S512x64_S512x64_S512x64_S512x64_S512x64_S512x64_S512x64_S512x64_S512x64_S512x64_S512x768_d1

set_option maxHeartbeats 1600000 in
/-- Twelve pieces side by side, read at a column of piece `h`, are piece `h` read at the column's place in it. -/
theorem concat_at (f : Fin 12 → FVec Ideal S512x64 .f32) (r : Fin 512) (h : Fin 12) (d : Fin 64) :
    beside f (ix2 r (col h d)) = f h (ix2 r d) := by
  have hd := d.isLt
  have pick : ∀ (k : Fin 12) (x : ℕ) (hx : x < 64), k.val = h.val → x = d.val → f k (ix2 r ⟨x, hx⟩) = f h (ix2 r d) := by
    rintro k x hx hk rfl
    rw [Fin.ext hk]
  have dcase : ∀ {c : Prop} [Decidable c] {A : c → EReal} {B : ¬c → EReal} {C : EReal},
      (∀ hc, A hc = C) → (∀ hc, B hc = C) → dite c A B = C := fun {c} _ _ _ _ hA hB => by
    by_cases hc : c
    · rw [dif_pos hc, hA]
    · rw [dif_neg hc, hB]
  pointwise [beside, pieces]
  iterate 11
    refine dcase (fun _ => pick _ _ _ ?_ (by omega)) fun _ => ?_
    · simp only [Fin.isValue, Fin.coe_ofNat_eq_mod]; omega
  refine pick _ _ _ ?_ (by omega)
  simp only [Fin.isValue, Fin.coe_ofNat_eq_mod]; omega

/-- The twelve heads the body computes one after another are the one function of the head's number, side by side. -/
theorem heads_eq (x0 : FVec Ideal S1x512x768 .f32) (x1 x2 : FVec Ideal S1x2048x768 .f32) :
    k1_pay16 (F := Ideal) (k1_pay2 x0) (k1_pay3 x1) (k1_pay4 x2) (k1_pay5 x0 x1 x2) (k1_pay6 x0 x1 x2) (k1_pay7 x0 x1 x2)
        (k1_pay9 (k1_pay3 x1) (k1_pay4 x2) (k1_pay8 x0))
        (k1_pay10 (k1_pay2 x0) (k1_pay3 x1) (k1_pay4 x2)) (k1_pay11 (k1_pay2 x0) (k1_pay3 x1) (k1_pay4 x2))
        (k1_pay12 (k1_pay2 x0) (k1_pay3 x1) (k1_pay4 x2)) (k1_pay13 (k1_pay2 x0) (k1_pay3 x1))
        (k1_pay14 (k1_pay2 x0) (k1_pay3 x1)) (k1_pay15 (k1_pay4 x2))
      = beside (fun h => head h (k1_pay2 x0) (k1_pay3 x1) (k1_pay4 x2)) := rfl

/-- What the second kernel's body stores, read at row `r` and column `j`: the heads' outputs of the row, each column in
    the unshifted form, times the projection weights, plus the bias. -/
theorem stored_at (x0 : FVec Ideal S1x512x768 .f32) (x1 x2 : FVec Ideal S1x2048x768 .f32) (x3 : FVec Ideal S768x768 .f32)
    (x4 : FVec Ideal S1x768 .f32) (r : Fin 512) (j : Fin 768) :
    k1_pay1 (beside (fun h => head h (k1_pay2 x0) (k1_pay3 x1) (k1_pay4 x2)))
        x3 x4 (ix3 0 r j)
      = (∑ c : Fin 768, unshifted
            (fun m : Fin 2048 => ∑ e : Fin 64, x0 (ix3 0 r (col (headOf c) e)) * scale * x1 (ix3 0 m (col (headOf c) e)))
            (fun m : Fin 2048 => x2 (ix3 0 m c)) * x3 (ix2 c j)) + x4 (ix2 0 j) := by
  have hread : ∀ c : Fin 768, beside (fun h => head h (k1_pay2 x0) (k1_pay3 x1) (k1_pay4 x2)) (ix2 r c)
      = unshifted
            (fun m : Fin 2048 => ∑ e : Fin 64, x0 (ix3 0 r (col (headOf c) e)) * scale * x1 (ix3 0 m (col (headOf c) e)))
            (fun m : Fin 2048 => x2 (ix3 0 m c)) := by
    intro c
    have h := (concat_at (fun h => head h (k1_pay2 x0) (k1_pay3 x1) (k1_pay4 x2)) r (headOf c) (placeOf c)).trans (headVec_at (headOf c) _ _ _ _ _ r (placeOf c))
    rw [col_headOf] at h
    rw [h]
    pointwise [k1_pay2, k1_pay3, k1_pay4]
  generalize beside (fun h => head h (k1_pay2 x0) (k1_pay3 x1) (k1_pay4 x2)) = H at hread ⊢
  pointwise [k1_pay1, hread]

/-- The same at any index of the block, by its last two coordinates. -/
theorem stored_at' (x0 : FVec Ideal S1x512x768 .f32) (x1 x2 : FVec Ideal S1x2048x768 .f32) (x3 : FVec Ideal S768x768 .f32)
    (x4 : FVec Ideal S1x768 .f32) (y : S1x512x768.Idx) :
    k1_pay1 (beside (fun h => head h (k1_pay2 x0) (k1_pay3 x1) (k1_pay4 x2)))
        x3 x4 y
      = (∑ c : Fin 768, unshifted
            (fun m : Fin 2048 => ∑ e : Fin 64, x0 (ix3 0 (y 1) (col (headOf c) e)) * scale * x1 (ix3 0 m (col (headOf c) e)))
            (fun m : Fin 2048 => x2 (ix3 0 m c)) * x3 (ix2 c (y 2))) + x4 (ix2 0 (y 2)) := by
  idx_vars y
  have h0 : y0 = 0 := Subsingleton.elim _ _
  subst h0
  exact stored_at x0 x1 x2 x3 x4 y1 y2

end Cert.KernelIdeal.Body

end
-- ==== Proof.Arrays.lean ====
/- What the two kernels leave in their result arrays, as one formula each over what they find in their operands:
   every grid point writes back its own block, the blocks tile the array, and a block is read at one index. -/
module

public import proofs.«01_k».proof.Proof.Head
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Body Cert.Attn

variable (V : (c : Dev nD) → (b : Ref sig .tc) → Buf (Elt Ideal) ((c : Thread nD τ).loc b))

/-! ## The first kernel -/

/-- The blocks the first kernel's windows are on at a grid point. -/
theorem idx0 : ∀ t : Fin cfg0.N, win0_0.index t = ![t.val / 12, t.val / 3 % 4, 0] ∧ win0_1.index t = ![0, t.val % 3]
    ∧ win0_2.index t = ![t.val / 12, t.val / 3 % 4, t.val % 3] :=
  (by decide +kernel : ∀ t : Fin grid0.N, _)

/-- The queries, keys and values as one array, from the inputs and the weights. -/
def qkvArr (X : FVec Ideal S2x2048x768 .f32) (W : FVec Ideal S768x2304 .f32) : FVec Ideal S2x2048x2304 .f32 :=
  fun i => qkv (fun b n c => X (ix3 b n c)) (fun c j => W (ix2 c j)) (i 0) (i 1) (i 2)

/-- The first kernel leaves the queries, keys and values of what it finds in its two operands. -/
theorem final0 (c : Dev nD) : (dat0 V c).arrAt 2 cfg0.N = qkvArr (V c main_arg0) (V c main_arg1) := by
  refine (dat0 V c).arrAt_eq_of_covers 2 _ (by decide +kernel) fun t hf y => ?_
  blk_simp
  rw [after0_2]
  frame_out
  pointwise [k0_pay1, qkvArr, qkv]
  blk_point [iblk0, idx0 t]

/-! ## The second kernel -/

/-- The blocks the second kernel's windows are on at a grid point. -/
theorem idx1 : ∀ t : Fin cfg1.N, win1_0.index t = ![t.val / 4, t.val % 4, 0] ∧ win1_1.index t = ![t.val / 4, 0, 1]
    ∧ win1_2.index t = ![t.val / 4, 0, 2] ∧ win1_3.index t = ![0, 0] ∧ win1_4.index t = ![0, 0]
    ∧ win1_5.index t = ![t.val / 4, t.val % 4, 0] :=
  (by decide +kernel : ∀ t : Fin grid1.N, _)

/-- Offset zero in three dimensions, and in two. -/
theorem zero3 : (![0, 0, 0] : Fin 3 → Nat) = fun _ => 0 := funext fun a => by fin_cases a <;> rfl

/-- The three blocks the body loads whole: scaled queries, keys, values. -/
theorem pay17 (x0 : Vec Ideal S1x512x768 .f32) (x1 x2 : Vec Ideal S1x2048x768 .f32) (x3 : Vec Ideal S768x768 .f32)
    (x4 : Vec Ideal S1x768 .f32) : k1_pay17 x0 x1 x2 x3 x4 = k1_pay2 x0 := by
  unfold k1_pay17; rw [View.ld_unit_zero zero3]
theorem pay18 (x0 : Vec Ideal S1x512x768 .f32) (x1 x2 : Vec Ideal S1x2048x768 .f32) (x3 : Vec Ideal S768x768 .f32)
    (x4 : Vec Ideal S1x768 .f32) : k1_pay18 x0 x1 x2 x3 x4 = k1_pay3 x1 := by
  unfold k1_pay18; rw [View.ld_unit_zero zero3]
theorem pay19 (x0 : Vec Ideal S1x512x768 .f32) (x1 x2 : Vec Ideal S1x2048x768 .f32) (x3 : Vec Ideal S768x768 .f32)
    (x4 : Vec Ideal S1x768 .f32) : k1_pay19 x0 x1 x2 x3 x4 = k1_pay4 x2 := by
  unfold k1_pay19; rw [View.ld_unit_zero zero3]

/-- The result array, from the queries, keys and values, the projection weights and the bias, the softmax unshifted. -/
def outArr (A : FVec Ideal S2x2048x2304 .f32) (P : FVec Ideal S768x768 .f32) (β : FVec Ideal S1x768 .f32) : FVec Ideal S2x2048x768 .f32 :=
  fun i => result unshifted (fun b n j => A (ix3 b n j)) (fun c j => P (ix2 c j)) (fun j => β (ix2 0 j)) (i 0) (i 1) (i 2)

/-- The second kernel leaves the result of what it finds in its operands. -/
theorem final1 (c : Dev nD) : (dat1 V c).arrAt 5 cfg1.N = outArr (V c main_v0) (V c main_arg2) (V c main_v1) := by
  refine (dat1 V c).arrAt_eq_of_covers 5 _ (by decide +kernel) fun t hf y => ?_
  blk_simp
  rw [after1_5]
  frame_out
  simp only [pay17, pay18, pay19, heads_eq]
  refine (stored_at' (iblk1 V c 0 t) (iblk1 V c 1 t) (iblk1 V c 2 t) (iblk1 V c 3 t) (iblk1 V c 4 t) y).trans ?_
  pointwise [outArr, result, score, unshifted]
  blk_point [iblk1, idx1 t]

end Cert.KernelIdeal.Arrays

end
-- ==== Proof.Run.lean ====
/- The kernel's run with its result: the generated launch over the two regions and the reshape between them, its last state read
   at the result array as well as at the arguments; then what the second region finds in its operands, so that the result is
   one formula over the arguments. -/
module

public import proofs.«01_k».proof.Proof.Arrays
public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Run

open Cert.KernelIdeal Cert.KernelIdeal.Gen Cert.KernelIdeal.Arrays Cert.Attn

local notation "𝕄" => MT nD τ sig Unit (Elt Ideal) ℕ (UR sig nD τ) ℕ

variable (m : (ℓ : Loc nD τ sig) → Buf (Elt Ideal) ℓ) (ρ : Dev nD → PrngReg)

/-- The second region finds the first region's result in its first operand, -/
theorem entry_qkv (c : Dev nD) : V2 m ρ c main_v0
    = qkvArr (m ((c : Thread nD τ).loc main_arg0)) (m ((c : Thread nD τ).loc main_arg1)) :=
  (W2_of m ρ c main_v0 (by decide)).trans ((W1_arr m ρ c 2).trans (final0 (V0 m ρ) c))

/-- the projection weights as launched in its second, -/
theorem entry_proj (c : Dev nD) : V2 m ρ c main_arg2 = m ((c : Thread nD τ).loc main_arg2) := W2_args m ρ c main_arg2 (by decide)

/-- and the bias as a row in its third. -/
theorem entry_bias (c : Dev nD) (j : Fin 768) :
    (V2 m ρ c main_v1 : FVec Ideal S1x768 .f32) (ix2 0 j) = (m ((c : Thread nD τ).loc main_arg3) : FVec Ideal S768 .f32) (ix1 j) := by
  have h : (V2 m ρ c main_v1 : FVec Ideal S1x768 .f32)
      = shapeCast S1x768 (W1 m ρ c (Proc.devRef .tc main_arg3) : FVec Ideal S768 .f32) shapeCasts_S768_S1x768 := by
    show StableHlo.after hostOps1 (W1 m ρ c) (Proc.devRef .tc main_v1) = _
    after_results_simp
    rfl
  rw [h, W1_args m ρ c main_arg3 (by decide)]
  pointwise

/-- What the kernel computes of its arguments: attention of the projected input, the bias added. -/
def out (X : FVec Ideal S2x2048x768 .f32) (W : FVec Ideal S768x2304 .f32) (P : FVec Ideal S768x768 .f32) (β : FVec Ideal S768 .f32) :
    FVec Ideal S2x2048x768 .f32 :=
  fun i => result unshifted (qkv (fun b n c => X (ix3 b n c)) (fun c j => W (ix2 c j))) (fun c j => P (ix2 c j)) (fun j => β (ix1 j))
    (i 0) (i 1) (i 2)

/-- The second region leaves it in the result array. -/
theorem result_out (c : Dev nD) : (dat1 (V2 m ρ) c).arrAt 5 cfg1.N
    = out (m ((c : Thread nD τ).loc main_arg0)) (m ((c : Thread nD τ).loc main_arg1)) (m ((c : Thread nD τ).loc main_arg2))
        (m ((c : Thread nD τ).loc main_arg3)) := by
  refine (final1 (V2 m ρ) c).trans ?_
  rw [entry_qkv, entry_proj]
  refine funext fun i => ?_
  have hb : (fun j => (V2 m ρ c main_v1 : FVec Ideal S1x768 .f32) (ix2 0 j))
      = fun j => (m ((c : Thread nD τ).loc main_arg3) : FVec Ideal S768 .f32) (ix1 j) := funext fun j => entry_bias m ρ c j
  exact congrArg (fun β => result unshifted (qkv (fun b n c' => (m ((c : Thread nD τ).loc main_arg0) : FVec Ideal S2x2048x768 .f32) (ix3 b n c'))
    (fun c' j => (m ((c : Thread nD τ).loc main_arg1) : FVec Ideal S768x2304 .f32) (ix2 c' j)))
    (fun c' j => (m ((c : Thread nD τ).loc main_arg2) : FVec Ideal S768x768 .f32) (ix2 c' j)) β (i 0) (i 1) (i 2)) hb

set_option backward.isDefEq.respectTransparency.types false in
/-- The kernel runs to its end, its result array holding `out` of its arguments, the arguments as launched. -/
theorem run : θ_run defs (onTc (τ := τ) (main (F := Ideal))) ⟨m, fun _ => 0, ρ⟩ (fun r => ∀ c : Dev nD,
      r.2.mem ((c.tc : Thread nD τ).loc main_v2)
        = out (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans ((W3_arr m ρ c 5).trans (result_out m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Run

end
-- ==== Proof.RefRead.lean ====
/- What the reference computes, read at one index: its operations in five groups over variables, each group read once,
   and the composed result as the formula with the shifted softmax. -/
module

public import proofs.«01_k».proof.Proof.Formula
public import proofs.«01_k».proof.Proof.Gen.ReferenceIdeal
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Attn

/-- The third `j` of the 2304 columns (queries, keys, values), its 768 columns split into heads and places. -/
def part (j : ℕ) (hj : S2x2048x3x12x64.Slices ![0, 0, j, 0, 0] S2x2048x1x12x64) (A : FVec Ideal S2x2048x2304 .f32) :
    FVec Ideal S2x2048x12x64 .f32 :=
  shapeCast _ (extractStridedSlice S2x2048x1x12x64 ![0, 0, j, 0, 0]
    (shapeCast _ A shapeCasts_S2x2048x2304_S2x2048x3x12x64) hj) shapeCasts_S2x2048x1x12x64_S2x2048x12x64

/-- Its entry of head `h` at place `e` is column `768 j + 64 h + e`. -/
theorem part_at (j : Fin 3) (hj : S2x2048x3x12x64.Slices ![0, 0, j.val, 0, 0] S2x2048x1x12x64) (A : FVec Ideal S2x2048x2304 .f32)
    (b : Fin 2) (n : Fin 2048) (h : Fin 12) (e : Fin 64) :
    part j.val hj A (ix4 b n h e) = A (ix3 b n ⟨768 * j.val + (col h e).val, by have := j.2; have := (col h e).2; omega⟩) := by
  pointwise [part]
  blk_ext

/-- The scores: scaled queries against keys, head by head. -/
def scores (Q K : FVec Ideal S2x2048x12x64 .f32) : FVec Ideal S2x12x2048x2048 .f32 :=
  Host.dotGeneral dot_S2x2048x12x64_S2x2048x12x64_S2x12x2048x2048_3_3_1_1_02_02 none
    (mulf Q (broadcastInDim S2x2048x12x64 ![] bcast_S_S2x2048x12x64 (constant S_ .f32 0x3E000000#32))) K

theorem scores_at (Q K : FVec Ideal S2x2048x12x64 .f32) (b : Fin 2) (h : Fin 12) (n m : Fin 2048) :
    scores Q K (ix4 b h n m) = ∑ e : Fin 64, Q (ix4 b n h e) * scale * K (ix4 b m h e) := by
  pointwise [scores]

/-- The greatest score of each row. -/
def rowMax (S : FVec Ideal S2x12x2048x2048 .f32) : FVec Ideal S2x12x2048 .f32 :=
  maximumf (broadcastInDim S2x12x2048 ![] bcast_S_S2x12x2048 (constant S_ .f32 0xFF800000#32))
    (Host.reduce FloatOps.maximumf S (constant S_ .f32 0xFF800000#32) reducesTo_S2x12x2048x2048_S2x12x2048_d3 h_S_)

/-- The pattern of minus infinity denotes the least extended real. -/
theorem ofBits_neg_inf : Ideal.ofBits .f32 0xFF800000#32 = (⊥ : EReal) := by simp [Ideal.ofBits, Ideal.ieee]

/-- The reduction of each row by the maximum, from any initial value, is the fold over the row. -/
theorem hostMax_at (S : FVec Ideal S2x12x2048x2048 .f32) (i : FVec Ideal S_ .f32) (b : Fin 2) (h : Fin 12) (n : Fin 2048) :
    Host.reduce FloatOps.maximumf S i reducesTo_S2x12x2048x2048_S2x12x2048_d3 h_S_ (ix3 b h n)
      = Finset.univ.fold max (i (Shape.Idx.first h_S_)) fun l : Fin 2048 => S (ix4 b h n l) := by
  simp only [pointwise]

/-- The initial value, and the value the maxima are taken against, is the least extended real. -/
theorem init_at (i : S_.Idx) : (constant S_ .f32 0xFF800000#32 : FVec Ideal S_ .f32) i = (⊥ : EReal) := ofBits_neg_inf

theorem floor_at (j : S2x12x2048.Idx) : (broadcastInDim S2x12x2048 ![] bcast_S_S2x12x2048
    (constant S_ .f32 0xFF800000#32 : FVec Ideal S_ .f32)) j = (⊥ : EReal) := ofBits_neg_inf

/-- The elementwise maximum is taken entry by entry. -/
theorem maximumf_at (x y : FVec Ideal S2x12x2048 .f32) (j : S2x12x2048.Idx) : maximumf x y j = max (x j) (y j) := rfl

theorem rowMax_at (S : FVec Ideal S2x12x2048x2048 .f32) (b : Fin 2) (h : Fin 12) (n : Fin 2048) :
    rowMax S (ix3 b h n) = top fun l => S (ix4 b h n l) := by
  rw [rowMax, maximumf_at, hostMax_at, init_at, floor_at, top]

/-- The exponentials of the scores lowered by their row's greatest. -/
def exps (S : FVec Ideal S2x12x2048x2048 .f32) : FVec Ideal S2x12x2048x2048 .f32 :=
  Host.exp (subf S (broadcastInDim S2x12x2048x2048 ![0, 1, 2, 3] bcast_S2x12x2048x1_S2x12x2048x2048_0_1_2_3
    (broadcastInDim S2x12x2048x1 ![0, 1, 2] bcast_S2x12x2048_S2x12x2048x1_0_1_2 (rowMax S))))

theorem exps_at (S : FVec Ideal S2x12x2048x2048 .f32) (b : Fin 2) (h : Fin 12) (n m : Fin 2048) :
    exps S (ix4 b h n m) = Ideal.exp (S (ix4 b h n m) - rowMax S (ix3 b h n)) := by
  pointwise [exps]

/-- The softmax weights: each exponential over its row's sum. -/
def weights (S : FVec Ideal S2x12x2048x2048 .f32) : FVec Ideal S2x12x2048x2048 .f32 :=
  Host.divf (exps S) (broadcastInDim S2x12x2048x2048 ![0, 1, 2, 3] bcast_S2x12x2048x1_S2x12x2048x2048_0_1_2_3
    (broadcastInDim S2x12x2048x1 ![0, 1, 2] bcast_S2x12x2048_S2x12x2048x1_0_1_2
      (Host.reduceAdd (exps S) (constant S_ .f32 0x00000000#32) reducesTo_S2x12x2048x2048_S2x12x2048_d3 h_S_)))

theorem weights_at (S : FVec Ideal S2x12x2048x2048 .f32) (b : Fin 2) (h : Fin 12) (n m : Fin 2048) :
    weights S (ix4 b h n m) = Ideal.div (exps S (ix4 b h n m)) (0 + ∑ l : Fin 2048, exps S (ix4 b h n l)) := by
  pointwise [weights]

/-- The values weighted, the heads' places side by side again. -/
def mixed (U : FVec Ideal S2x2048x12x64 .f32) (S : FVec Ideal S2x12x2048x2048 .f32) : FVec Ideal S2x2048x768 .f32 :=
  shapeCast _ (transpose S2x2048x12x64 [0, 3, 1, 2]
    (Host.dotGeneral dot_S2x2048x12x64_S2x12x2048x2048_S2x12x64x2048_1_3_3_2_02_01 none U (weights S))
    transposes_S2x12x64x2048_S2x2048x12x64_0_3_1_2) shapeCasts_S2x2048x12x64_S2x2048x768

theorem mixed_at (U : FVec Ideal S2x2048x12x64 .f32) (S : FVec Ideal S2x12x2048x2048 .f32) (b : Fin 2) (n : Fin 2048) (c : Fin 768) :
    mixed U S (ix3 b n c) = ∑ m : Fin 2048, U (ix4 b m (headOf c) (placeOf c)) * weights S (ix4 b (headOf c) n m) := by
  pointwise [mixed]

/-- The result from the queries, keys and values, the projection weights and the bias. -/
def whole (A : FVec Ideal S2x2048x2304 .f32) (P : FVec Ideal S768x768 .f32) (β : FVec Ideal S768 .f32) : FVec Ideal S2x2048x768 .f32 :=
  addf (Host.dotGeneral dot_S2x2048x768_S768x768_S2x2048x768_2_0_01_1_n_n none
      (mixed (part 2 slices_S2x2048x3x12x64_S2x2048x1x12x64_0_0_2_0_0 A)
        (scores (part 0 slices_S2x2048x3x12x64_S2x2048x1x12x64_0_0_0_0_0 A) (part 1 slices_S2x2048x3x12x64_S2x2048x1x12x64_0_0_1_0_0 A))) P)
    (broadcastInDim S2x2048x768 ![0, 1, 2] bcast_S1x1x768_S2x2048x768_0_1_2 (broadcastInDim S1x1x768 ![2] bcast_S768_S1x1x768_2 β))

/-- The reference's result is that, over the product of the input and the weights. -/
theorem res_eq (m : (ℓ : Loc nD τ sig) → Buf (Elt Ideal) ℓ) (c : Dev nD) :
    Value.res_main_v28 m c = whole
      (Host.dotGeneral (F := Ideal) (φ₁ := .f32) (φ₂ := .f32) dot_S2x2048x768_S768x2304_S2x2048x2304_2_0_01_1_n_n none (m ((c.tc : Thread nD τ).loc main_arg0)) (m ((c.tc : Thread nD τ).loc main_arg1)))
      (m ((c.tc : Thread nD τ).loc main_arg2)) (m ((c.tc : Thread nD τ).loc main_arg3)) := by
  unfold Value.res_main_v28
  rfl

/-- The reference's result at an index: the formula with the shifted softmax. -/
theorem whole_at (A : FVec Ideal S2x2048x2304 .f32) (P : FVec Ideal S768x768 .f32) (β : FVec Ideal S768 .f32)
    (b : Fin 2) (n : Fin 2048) (j : Fin 768) :
    whole A P β (ix3 b n j)
      = result shifted (fun b n j => A (ix3 b n j)) (fun c j => P (ix2 c j)) (fun j => β (ix1 j)) b n j := by
  have hq : ∀ (n : Fin 2048) (h : Fin 12) (e : Fin 64), part 0 slices_S2x2048x3x12x64_S2x2048x1x12x64_0_0_0_0_0 A (ix4 b n h e)
      = A (ix3 b n (qCol (col h e))) := fun n h e =>
    (part_at 0 _ A b n h e).trans (congrArg (fun k => A (ix3 b n k)) (Fin.ext (by show 768 * 0 + (col h e).val = (col h e).val; omega)))
  have hk : ∀ (n : Fin 2048) (h : Fin 12) (e : Fin 64), part 1 slices_S2x2048x3x12x64_S2x2048x1x12x64_0_0_1_0_0 A (ix4 b n h e)
      = A (ix3 b n (kCol (col h e))) := fun n h e =>
    (part_at 1 _ A b n h e).trans (congrArg (fun k => A (ix3 b n k)) (Fin.ext (by show 768 * 1 + _ = 768 + _; omega)))
  have hv : ∀ (n : Fin 2048) (h : Fin 12) (e : Fin 64), part 2 slices_S2x2048x3x12x64_S2x2048x1x12x64_0_0_2_0_0 A (ix4 b n h e)
      = A (ix3 b n (vCol (col h e))) := fun n h e =>
    (part_at 2 _ A b n h e).trans (congrArg (fun k => A (ix3 b n k)) (Fin.ext (by show 768 * 2 + _ = 1536 + _; omega)))
  have hs : ∀ (h : Fin 12) (n m : Fin 2048), scores (part 0 slices_S2x2048x3x12x64_S2x2048x1x12x64_0_0_0_0_0 A)
      (part 1 slices_S2x2048x3x12x64_S2x2048x1x12x64_0_0_1_0_0 A) (ix4 b h n m) = score (fun b n j => A (ix3 b n j)) b h n m := by
    intro h n m
    rw [scores_at, score]
    exact Finset.sum_congr rfl fun e _ => by rw [hq, hk]
  unfold whole
  pointwise
  unfold result
  refine congrArg (· + β (ix1 j)) (Finset.sum_congr rfl fun c _ => congrArg (· * P (ix2 c j)) ?_)
  rw [mixed_at, shifted]
  refine Finset.sum_congr rfl fun m _ => ?_
  simp only [weights_at, exps_at, rowMax_at, hs, hv, col_headOf]

end Cert.ReferenceIdeal.Read

end
-- ==== Proof.lean ====
/- The proof of the certificate's claims. The frames are the generated launches; the printed and the ideal program are the same
   text, so what `preserves` asks is nothing; the value claim joins the kernel's run (Proof/Run.lean) to the reference's by the softmax
   equation (Proof/Formula.lean), on inputs whose entries and first weights are real numbers (Proof/Pre.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Run
public import proofs.«01_k».proof.Proof.RefRead
public import Idealize.ShloMosaic.Adequacy
public import Idealize.ShloMosaic.Init

@[expose] public section

set_option maxRecDepth 16384

noncomputable section

namespace Cert.Proof

open Idealize.ShloMosaic Idealize.SL.Sem Cert.Attn

/-- The reference runs to its end, its arguments unchanged; it declares no semaphore, so every counter is zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The reference's first product, read at an entry, is the projection of the input. -/
theorem product_at (X : FVec Ideal Cert.ReferenceIdeal.S2x2048x768 .f32) (W : FVec Ideal Cert.ReferenceIdeal.S768x2304 .f32)
    (b : Fin 2) (n : Fin 2048) (j : Fin 2304) :
    (Host.dotGeneral (F := Ideal) (φ₁ := .f32) (φ₂ := .f32) Cert.ReferenceIdeal.dot_S2x2048x768_S768x2304_S2x2048x2304_2_0_01_1_n_n none X W) (ix3 b n j)
      = qkv (fun b n c => X (ix3 b n c)) (fun c j => W (ix2 c j)) b n j := by
  pointwise [qkv]

/-- Where the input's entries and the first weights' are real, the reference computes what the kernel does. -/
theorem whole_eq_out (X : FVec Ideal Cert.KernelIdeal.S2x2048x768 .f32) (W : FVec Ideal Cert.KernelIdeal.S768x2304 .f32)
    (P : FVec Ideal Cert.KernelIdeal.S768x768 .f32) (β : FVec Ideal Cert.KernelIdeal.S768 .f32)
    (hX : ∀ i, ∃ r : ℝ, X i = (r : EReal)) (hW : ∀ i, ∃ r : ℝ, W i = (r : EReal)) :
    Cert.ReferenceIdeal.Read.whole (Host.dotGeneral (F := Ideal) (φ₁ := .f32) (φ₂ := .f32) Cert.ReferenceIdeal.dot_S2x2048x768_S768x2304_S2x2048x2304_2_0_01_1_n_n none X W) P β
      = Cert.KernelIdeal.Run.out X W P β := by
  obtain ⟨a, ha⟩ := qkv_real (fun b n c => X (ix3 b n c)) (fun c j => W (ix2 c j)) (fun b n c => hX _) (fun c j => hW _)
  funext y
  obtain ⟨b, n, j, rfl⟩ : ∃ (b : Fin 2) (n : Fin 2048) (j : Fin 768), y = ix3 b n j := ⟨y 0, y 1, y 2, eq_ix3 y⟩
  rw [Cert.ReferenceIdeal.Read.whole_at]
  have hA : (fun b n j => (Host.dotGeneral (F := Ideal) (φ₁ := .f32) (φ₂ := .f32) Cert.ReferenceIdeal.dot_S2x2048x768_S768x2304_S2x2048x2304_2_0_01_1_n_n none X W) (ix3 b n j))
      = fun b n j => (a b n j : EReal) := by
    rw [← ha]; exact funext fun b => funext fun n => funext fun j => product_at X W b n j
  rw [hA]
  show _ = result unshifted (qkv (fun b n c => X (ix3 b n c)) (fun c j => W (ix2 c j))) (fun c j => P (ix2 c j)) (fun j => β (ix1 j)) b n j
  rw [ha, result_eq]

/-- The kernel's result is the reference's, where the precondition holds. -/
theorem value : Cert.algebraic_KernelIdeal_ReferenceIdeal_pre_finite := by
  intro m g m' g' hpre hagree
  refine ⟨_, Cert.KernelIdeal.Run.run m g, (θ_run Cert.ReferenceIdeal.defs _ _).mono (fun r h c => ⟨?_, (h c).2⟩)
    (Cert.ReferenceIdeal.Value.run (F := Ideal) m' g')⟩
  obtain ⟨h0, h1, h2, h3⟩ := hagree c
  obtain ⟨hX, hW⟩ := Cert.Pre_finite.real_of_fn _ _ _ _ (hpre c)
  refine ((h c).1.trans (Cert.ReferenceIdeal.Read.res_eq m' c)).trans ?_
  refine Eq.trans ?_ (whole_eq_out _ _ _ _ hX hW)
  rw [h0, h1, h2, h3]

/-- Every claim of the certificate. -/
theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    value⟩

end Cert.Proof

end
